-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_n" .f32 0x39A3D70A#32 ((1 / 3200 : ℝ) : EReal)
  ∧ IdealRules.named_const.Statement Cert.KernelIdeal.κ "inv_tau" .f32 0x4036DB6E#32 ((33554432 / 11744051 : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S32x64x128x25x6 : Shape := ⟨5, ![32, 64, 128, 25, 6]⟩
abbrev S32x1x128x25x6 : Shape := ⟨5, ![32, 1, 128, 25, 6]⟩
abbrev S32x128x25x6 : Shape := ⟨4, ![32, 128, 25, 6]⟩
abbrev S_ : Shape := ⟨0, ![]⟩

class Facts : Prop where
  slices_S32x64x128x25x6_S32x1x128x25x6_0_3_0_0_0 : S32x64x128x25x6.Slices ![0, 3, 0, 0, 0] S32x1x128x25x6
  shapeCasts_S32x1x128x25x6_S32x128x25x6 : S32x1x128x25x6.ShapeCasts S32x128x25x6
  bcast_S_S32x128x25x6 : S_.BroadcastsInDim S32x128x25x6 (![] : Fin 0 → Fin S32x128x25x6.rank)

variable [Facts]

def fn {F : FTy → Type} [FloatOps F] (main_arg0 : FVec F S32x64x128x25x6 .f32) : IVec S32x128x25x6 1 :=
  let main_v0 : FVec F S32x1x128x25x6 .f32 := (extractStridedSlice S32x1x128x25x6 ![0, 3, 0, 0, 0] · slices_S32x64x128x25x6_S32x1x128x25x6_0_3_0_0_0) main_arg0
  let main_v1 : FVec F S32x128x25x6 .f32 := shapeCast S32x128x25x6 main_v0 shapeCasts_S32x1x128x25x6_S32x128x25x6
  let main_v2 : FVec F S32x128x25x6 .f32 := Host.absf main_v1
  let main_cst : FVec F S_ .f32 := constant S_ .f32 0x7F800000#32
  let main_v3 : FVec F S32x128x25x6 .f32 := broadcastInDim S32x128x25x6 ![] bcast_S_S32x128x25x6 main_cst
  let main_v4 : IVec S32x128x25x6 1 := cmpf .olt main_v2 main_v3
  main_v4
-- ==== Kernel.lean ====
abbrev S32x64x128x25x6 : Shape := ⟨5, ![32, 64, 128, 25, 6]⟩
abbrev S32x8192x150 : Shape := ⟨3, ![32, 8192, 150]⟩
abbrev S1x8192x150 : Shape := ⟨3, ![1, 8192, 150]⟩
abbrev S150x150 : Shape := ⟨2, ![150, 150]⟩
abbrev S1x512x150 : Shape := ⟨3, ![1, 512, 150]⟩
abbrev S512x150 : Shape := ⟨2, ![512, 150]⟩
abbrev S4x128x150 : Shape := ⟨3, ![4, 128, 150]⟩
abbrev S4x150 : Shape := ⟨2, ![4, 150]⟩
abbrev S6x150 : Shape := ⟨2, ![6, 150]⟩
abbrev S4x6 : Shape := ⟨2, ![4, 6]⟩
abbrev S3x6 : Shape := ⟨2, ![3, 6]⟩
abbrev S1x6 : Shape := ⟨2, ![1, 6]⟩
abbrev S3x6x1 : Shape := ⟨3, ![3, 6, 1]⟩
abbrev S3x1x6 : Shape := ⟨3, ![3, 1, 6]⟩
abbrev S3x6x6 : Shape := ⟨3, ![3, 6, 6]⟩
abbrev S6x6 : Shape := ⟨2, ![6, 6]⟩
abbrev S6x6x6 : Shape := ⟨3, ![6, 6, 6]⟩
abbrev S6x1x6 : Shape := ⟨3, ![6, 1, 6]⟩
abbrev S6x6x1 : Shape := ⟨3, ![6, 6, 1]⟩
abbrev S1 : Shape := ⟨1, ![1]⟩
abbrev S1x1 : Shape := ⟨2, ![1, 1]⟩
abbrev S6x1 : Shape := ⟨2, ![6, 1]⟩
abbrev S6 : Shape := ⟨1, ![6]⟩
abbrev S150x6 : Shape := ⟨2, ![150, 6]⟩
abbrev S8192x150 : Shape := ⟨2, ![8192, 150]⟩

abbrev nBuf : Space → Nat
  | .hbm => 4
  | .vmem => 5
  | .smem => 0
  | _ => 0

abbrev bufTy : (tb : Table) → Fin (tcTables nBuf tb) → BufTy
  | .hbm, ⟨0, _⟩ => ⟨S32x64x128x25x6, .f32⟩
  | .hbm, ⟨1, _⟩ => ⟨S32x8192x150, .f32⟩
  | .hbm, ⟨2, _⟩ => ⟨S32x8192x150, .f32⟩
  | .hbm, ⟨3, _⟩ => ⟨S32x64x128x25x6, .f32⟩
  | .local _ .vmem, ⟨0, _⟩ => ⟨S1x8192x150, .f32⟩
  | .local _ .vmem, ⟨1, _⟩ => ⟨S1x8192x150, .f32⟩
  | .local _ .vmem, ⟨2, _⟩ => ⟨S1x8192x150, .f32⟩
  | .local _ .vmem, ⟨3, _⟩ => ⟨S1x8192x150, .f32⟩
  | .local _ .vmem, ⟨4, _⟩ => ⟨S150x150, .f32⟩
  | _, _ => ⟨S32x64x128x25x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x150 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "inv_n" => some ((1 / 3200 : ℝ) : EReal)
  | "inv_tau" => some ((33554432 / 11744051 : ℝ) : EReal)
  | _ => none
-- ==== ReferenceIdeal.lean ====
abbrev S32x64x128x25x6 : Shape := ⟨5, ![32, 64, 128, 25, 6]⟩
abbrev S32x3x128x25x6 : Shape := ⟨5, ![32, 3, 128, 25, 6]⟩
abbrev S_ : Shape := ⟨0, ![]⟩
abbrev S32x3x6 : Shape := ⟨3, ![32, 3, 6]⟩
abbrev S32x6x3 : Shape := ⟨3, ![32, 6, 3]⟩
abbrev S32x1x128x25x6 : Shape := ⟨5, ![32, 1, 128, 25, 6]⟩
abbrev S32x128x25x6 : Shape := ⟨4, ![32, 128, 25, 6]⟩
abbrev S32x6 : Shape := ⟨2, ![32, 6]⟩
abbrev S32x6x1x3 : Shape := ⟨4, ![32, 6, 1, 3]⟩
abbrev S32x1x6x3 : Shape := ⟨4, ![32, 1, 6, 3]⟩
abbrev S32x6x6x3 : Shape := ⟨4, ![32, 6, 6, 3]⟩
abbrev S32x6x6 : Shape := ⟨3, ![32, 6, 6]⟩
abbrev S32x6x4 : Shape := ⟨3, ![32, 6, 4]⟩
abbrev S32x6x4x1 : Shape := ⟨4, ![32, 6, 4, 1]⟩
abbrev S1x1x1x6 : Shape := ⟨4, ![1, 1, 1, 6]⟩
abbrev S32x6x4x6 : Shape := ⟨4, ![32, 6, 4, 6]⟩
abbrev S6x6 : Shape := ⟨2, ![6, 6]⟩
abbrev S1x6x6 : Shape := ⟨3, ![1, 6, 6]⟩
abbrev S32 : Shape := ⟨1, ![32]⟩
abbrev S32x1 : Shape := ⟨2, ![32, 1]⟩
abbrev S32x6x1 : Shape := ⟨3, ![32, 6, 1]⟩
abbrev S32x1x6 : Shape := ⟨3, ![32, 1, 6]⟩

abbrev nBuf : Space → Nat
  | .hbm => 107
  | .vmem => 0
  | .smem => 0
  | _ => 0

abbrev bufTy : (tb : Table) → Fin (tcTables nBuf tb) → BufTy
  | .hbm, ⟨0, _⟩ => ⟨S32x64x128x25x6, .f32⟩
  | .hbm, ⟨1, _⟩ => ⟨S32x3x128x25x6, .f32⟩
  | .hbm, ⟨2, _⟩ => ⟨S_, .f32⟩
  | .hbm, ⟨3, _⟩ => ⟨S32x3x6, .f32⟩
  | .hbm, ⟨4, _⟩ => ⟨S_, .f32⟩
  | .hbm, ⟨5, _⟩ => ⟨S32x3x6, .f32⟩
  | .hbm, ⟨6, _⟩ => ⟨S32x3x6, .f32⟩
  | .hbm, ⟨7, _⟩ => ⟨S32x6x3, .f32⟩
  | .hbm, ⟨8, _⟩ => ⟨S32x1x128x25x6, .f32⟩
  | .hbm, ⟨9, _⟩ => ⟨S32x128x25x6, .f32⟩
  | .hbm, ⟨10, _⟩ => ⟨S_, .f32⟩
  | .hbm, ⟨11, _⟩ => ⟨S32x6, .f32⟩
  | .hbm, ⟨12, _⟩ => ⟨S_, .f32⟩
  | .hbm, ⟨13, _⟩ => ⟨S32x6, .f32⟩
  | .hbm, ⟨14, _⟩ => ⟨S32x6, .f32⟩
  | .hbm, ⟨15, _⟩ => ⟨S32x6x1x3, .f32⟩
  | .hbm, ⟨16, _⟩ => ⟨S32x1x6x3, .f32⟩
  | .hbm, ⟨17, _⟩ => ⟨S32x6x6x3, .f32⟩
  | .hbm, ⟨18, _⟩ => ⟨S32x6x6x3, .f32⟩
  | .hbm, ⟨19, _⟩ => ⟨S32x6x6x3, .f32⟩
  | .hbm, ⟨20, _⟩ => ⟨S32x6x6x3, .f32⟩
  | .hbm, ⟨21, _⟩ => ⟨S_, .f32⟩
  | .hbm, ⟨22, _⟩ => ⟨S32x6x6, .f32⟩
  | .hbm, ⟨23, _⟩ => ⟨S_, .f32⟩
  | .hbm, ⟨24, _⟩ => ⟨S32x6x6, .f32⟩
  | .hbm, ⟨25, _⟩ => ⟨S32x6x6, .f32⟩
  | .hbm, ⟨26, _⟩ => ⟨S32x6x6, .f32⟩
  | .hbm, ⟨27, _⟩ => ⟨S32x6x6, .f32⟩
  | .hbm, ⟨28, _⟩ => ⟨S32x6x4, .f32⟩
  | .hbm, ⟨29, _⟩ => ⟨S32x6x4, .i32⟩
  | .hbm, ⟨30, _⟩ => ⟨S32x6x4x1, .i32⟩
  | .hbm, ⟨31, _⟩ => ⟨S1x1x1x6, .i32⟩
  | .hbm, ⟨32, _⟩ => ⟨S32x6x4x6, .i32⟩
  | .hbm, ⟨33, _⟩ => ⟨S32x6x4x6, .i32⟩
  | .hbm, ⟨34, _⟩ => ⟨S32x6x4x6, .i1⟩
  | .hbm, ⟨35, _⟩ => ⟨S32x6x4x6, .f32⟩
  | .hbm, ⟨36, _⟩ => ⟨S_, .f32⟩
  | .hbm, ⟨37, _⟩ => ⟨S32x6x6, .f32⟩
  | .hbm, ⟨38, _⟩ => ⟨S_, .f32⟩
  | .hbm, ⟨39, _⟩ => ⟨S32x6x6, .f32⟩
  | .hbm, ⟨40, _⟩ => ⟨S32x6x6, .f32⟩
  | .hbm, ⟨41, _⟩ => ⟨S6x6, .i32⟩
  | .hbm, ⟨42, _⟩ => ⟨S6x6, .i32⟩
  | .hbm, ⟨43, _⟩ => ⟨S_, .i32⟩
  | .hbm, ⟨44, _⟩ => ⟨S6x6, .i32⟩
  | .hbm, ⟨45, _⟩ => ⟨S6x6, .i32⟩
  | .hbm, ⟨46, _⟩ => ⟨S6x6, .i1⟩
  | .hbm, ⟨47, _⟩ => ⟨S6x6, .f32⟩
  | .hbm, ⟨48, _⟩ => ⟨S1x6x6, .f32⟩
  | .hbm, ⟨49, _⟩ => ⟨S32x6x6, .f32⟩
  | .hbm, ⟨50, _⟩ => ⟨S32x6x6, .f32⟩
  | .hbm, ⟨51, _⟩ => ⟨S_, .f32⟩
  | .hbm, ⟨52, _⟩ => ⟨S32x6, .f32⟩
  | .hbm, ⟨53, _⟩ => ⟨S32x6, .f32⟩
  | .hbm, ⟨54, _⟩ => ⟨S_, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S32x1, .f32⟩
  | .hbm, ⟨60, _⟩ => ⟨S32x6, .f32⟩
  | .hbm, ⟨61, _⟩ => ⟨S32x6, .f32⟩
  | .hbm, ⟨62, _⟩ => ⟨S32x6, .f32⟩
  | .hbm, ⟨63, _⟩ => ⟨S_, .f32⟩
  | .hbm, ⟨64, _⟩ => ⟨S32, .f32⟩
  | .hbm, ⟨65, _⟩ => ⟨S32x1, .f32⟩
  | .hbm, ⟨66, _⟩ => ⟨S32x6, .f32⟩
  | .hbm, ⟨67, _⟩ => ⟨S32x6, .f32⟩
  | .hbm, ⟨68, _⟩ => ⟨S32x6x1, .f32⟩
  | .hbm, ⟨69, _⟩ => ⟨S32x1x6, .f32⟩
  | .hbm, ⟨70, _⟩ => ⟨S32x6x6, .f32⟩
  | .hbm, ⟨71, _⟩ => ⟨S32x6x6, .f32⟩
  | .hbm, ⟨72, _⟩ => ⟨S32x6x6, .f32⟩
  | .hbm, ⟨73, _⟩ => ⟨S6x6, .i32⟩
  | .hbm, ⟨74, _⟩ => ⟨S6x6, .i32⟩
  | .hbm, ⟨75, _⟩ => ⟨S_, .i32⟩
  | .hbm, ⟨76, _⟩ => ⟨S6x6, .i32⟩
  | .hbm, ⟨77, _⟩ => ⟨S6x6, .i32⟩
  | .hbm, ⟨78, _⟩ => ⟨S6x6, .i1⟩
  | .hbm, ⟨79, _⟩ => ⟨S6x6, .f32⟩
  | .hbm, ⟨80, _⟩ => ⟨S1x6x6, .f32⟩
  | .hbm, ⟨81, _⟩ => ⟨S32x6x6, .f32⟩
  | .hbm, ⟨82, _⟩ => ⟨S32x6x6, .f32⟩
  | .hbm, ⟨83, _⟩ => ⟨S_, .f32⟩
  | .hbm, ⟨84, _⟩ => ⟨S32x6x6, .f32⟩
  | .hbm, ⟨85, _⟩ => ⟨S32x6x6, .f32⟩
  | .hbm, ⟨86, _⟩ => ⟨S_, .f32⟩
  | .hbm, ⟨87, _⟩ => ⟨S32x6x6, .f32⟩
  | .hbm, ⟨88, _⟩ => ⟨S32x6x6, .f32⟩
  | .hbm, ⟨89, _⟩ => ⟨S32x6x6, .f32⟩
  | .hbm, ⟨90, _⟩ => ⟨S_, .f32⟩
  | .hbm, ⟨91, _⟩ => ⟨S32x6, .f32⟩
  | .hbm, ⟨92, _⟩ => ⟨S_, .f32⟩
  | .hbm, ⟨93, _⟩ => ⟨S32x6, .f32⟩
  | .hbm, ⟨94, _⟩ => ⟨S32x6, .f32⟩
  | .hbm, ⟨95, _⟩ => ⟨S32x6, .f32⟩
  | .hbm, ⟨96, _⟩ => ⟨S32x6x1, .f32⟩
  | .hbm, ⟨97, _⟩ => ⟨S32x6x6, .f32⟩
  | .hbm, ⟨98, _⟩ => ⟨S32x6x6, .f32⟩
  | .hbm, ⟨99, _⟩ => ⟨S32x1x6, .f32⟩
  | .hbm, ⟨100, _⟩ => ⟨S32x6x6, .f32⟩
  | .hbm, ⟨101, _⟩ => ⟨S32x6x6, .f32⟩
  | .hbm, ⟨102, _⟩ => ⟨S32x64x128x25x6, .f32⟩
  | .hbm, ⟨103, _⟩ => ⟨S_, .f32⟩
  | .hbm, ⟨104, _⟩ => ⟨S32x64x128x25x6, .f32⟩
  | .hbm, ⟨105, _⟩ => ⟨S32x64x128x25x6, .f32⟩
  | .hbm, ⟨106, _⟩ => ⟨S32x64x128x25x6, .f32⟩
  | _, _ => ⟨S32x64x128x25x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_values : Ref sig .tc := ⟨.hbm, 28, rfl⟩
abbrev main_indices : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Proof.Spec.Order.lean ====
/- The nearest four of six nodes, chosen in two ways: by counting the nodes that come before a node, and by
   sorting the nodes and taking the first four. -/
module

public import Idealize.ShloMosaic.Lib.SortFacts
public import Mathlib.Data.EReal.Basic

@[expose] public section

noncomputable section

namespace Tag

open Idealize.ShloMosaic

/-- Node `l` comes before node `j`: its score is greater, or the scores are equal and its number is smaller. -/
def Beats {n : Nat} (D : Fin n → EReal) (l j : Fin n) : Prop := D j < D l ∨ (D l = D j ∧ l < j)

instance {n : Nat} (D : Fin n → EReal) (l j : Fin n) : Decidable (Beats D l j) := Classical.propDecidable _

/-- The number of nodes that come before node `j`. -/
def rank {n : Nat} (D : Fin n → EReal) (j : Fin n) : Nat := (Finset.univ.filter fun l => Beats D l j).card

theorem Beats.trans {n : Nat} {D : Fin n → EReal} {a b c : Fin n} (h : Beats D a b) (h' : Beats D b c) : Beats D a c := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem Beats.irrefl {n : Nat} {D : Fin n → EReal} {a : Fin n} (h : Beats D a a) : False := by
  rcases h with h | ⟨_, h⟩
  · exact lt_irrefl _ h
  · exact lt_irrefl _ h

/-- Inserting a node with a smaller number than all the nodes of an ordered list leaves the list ordered. -/
theorem pairwise_insert {n : Nat} (D : Fin n → EReal) (a : Fin n) (L : List (Fin n)) (hL : L.Pairwise (Beats D))
    (ha : ∀ b ∈ L, a < b) : (insertBefore (fun k k' => decide (D k' < D k)) a L).Pairwise (Beats D) := by
  induction L with
  | nil => exact List.pairwise_singleton _ _
  | cons b L ih =>
    rw [List.pairwise_cons] at hL
    unfold insertBefore
    split
    · rename_i h
      refine List.pairwise_cons.mpr ⟨fun c hc => ?_, ih hL.2 fun c hc => ha c (List.mem_cons_of_mem b hc)⟩
      rcases List.mem_cons.mp ((perm_insertBefore _ a L).mem_iff.mp hc) with rfl | hc'
      · exact Or.inl (of_decide_eq_true h)
      · exact hL.1 c hc'
    · rename_i h
      have hab : Beats D a b := by
        have h' : ¬ D a < D b := fun e => h (decide_eq_true e)
        rcases lt_or_eq_of_le (not_lt.mp h') with e | e
        · exact Or.inl e
        · exact Or.inr ⟨e.symm, ha b List.mem_cons_self⟩
      refine List.pairwise_cons.mpr ⟨fun c hc => ?_, List.pairwise_cons.mpr hL⟩
      rcases List.mem_cons.mp hc with rfl | hc'
      · exact hab
      · exact hab.trans (hL.1 c hc')

/-- Sorting a list of increasing numbers by score, greatest first, orders it. -/
theorem pairwise_sorted {n : Nat} (D : Fin n → EReal) (L : List (Fin n)) (hL : L.Pairwise (· < ·)) :
    (stableSort (fun k k' => decide (D k' < D k)) L).Pairwise (Beats D) := by
  induction L with
  | nil => exact List.Pairwise.nil
  | cons a L ih =>
    rw [List.pairwise_cons] at hL
    unfold stableSort
    exact pairwise_insert D a _ (ih hL.2) fun b hb => hL.1 b ((perm_stableSort _ L).mem_iff.mp hb)

/-- The node at an earlier place of the sorted order comes before the node at a later one. -/
theorem beats_of_lt {n : Nat} (D : Fin n → EReal) (i j : Fin n) (h : i < j) :
    Beats D (sortedFrom (fun k k' => decide (D k' < D k)) i) (sortedFrom (fun k k' => decide (D k' < D k)) j) := by
  have hs : (List.finRange n).Pairwise (· < ·) := List.pairwise_lt_finRange n
  have hp : ∀ a b : Fin (sortPositions n fun k k' => decide (D k' < D k)).length, a < b →
      Beats D ((sortPositions n fun k k' => decide (D k' < D k)).get a)
        ((sortPositions n fun k k' => decide (D k' < D k)).get b) :=
    List.pairwise_iff_get.mp (pairwise_sorted D _ hs)
  unfold sortedFrom
  exact hp _ _ h

/-- Exactly `k` nodes come before the node at place `k` of the sorted order. -/
theorem rank_sorted {n : Nat} (D : Fin n → EReal) (k : Fin n) :
    rank D (sortedFrom (fun k k' => decide (D k' < D k)) k) = k.val := by
  have hs : (Finset.univ.filter fun l => Beats D l (sortedFrom (fun k k' => decide (D k' < D k)) k))
      = (Finset.Iio k).image (sortedFrom (fun k k' => decide (D k' < D k))) := by
    ext l
    obtain ⟨i, rfl⟩ := sortedFrom_surjective (fun k k' => decide (D k' < D k)) l
    simp only [Finset.mem_filter, Finset.mem_univ, true_and, Finset.mem_image, Finset.mem_Iio]
    constructor
    · intro h
      refine ⟨i, ?_, rfl⟩
      rcases lt_trichotomy i k with e | rfl | e
      · exact e
      · exact (h.irrefl).elim
      · exact ((h.trans (beats_of_lt D k i e)).irrefl).elim
    · rintro ⟨i', hi', e⟩
      rw [← sortedFrom_injective _ e]
      exact beats_of_lt D i' k hi'
  unfold rank
  rw [hs, Finset.card_image_of_injective _ (sortedFrom_injective _), Fin.card_Iio]

/-- Among the first four places of the sorted order node `j` stands once if fewer than four nodes come before it,
    and not at all otherwise. -/
theorem sum_first_four (D : Fin 6 → EReal) (j : Fin 6) :
    (∑ k : Fin 4, if sortedFrom (fun k k' => decide (D k' < D k)) (k.castLE (by decide)) = j then (1 : EReal) else 0)
      = if rank D j < 4 then 1 else 0 := by
  obtain ⟨p, rfl⟩ := sortedFrom_surjective (fun k k' => decide (D k' < D k)) j
  rw [rank_sorted]
  simp only [(sortedFrom_injective _).eq_iff]
  split
  · rename_i h
    rw [Finset.sum_eq_single (⟨p.val, h⟩ : Fin 4)]
    · exact if_pos (Fin.ext rfl)
    · intro k _ hk
      exact if_neg fun e => hk (Fin.ext (congrArg (fun q : Fin 6 => q.val) e))
    · intro h'; exact (h' (Finset.mem_univ _)).elim
  · rename_i h
    refine Finset.sum_eq_zero fun k _ => if_neg fun e => h ?_
    rw [← e]; exact k.isLt

end Tag

end
-- ==== Proof.Spec.Layer.lean ====
/- The layer as mathematics over the extended reals: for one sample, the six nodes' mean positions and mean scores, the
   graph on the nodes that they give, and one step of message passing along it. -/
module

public import proofs.«01_k».proof.Proof.Spec.Order
public import Idealize.ShloMosaic.PureOps.Ideal

@[expose] public section

noncomputable section

namespace Tag

open Idealize.ShloMosaic

/-- One channel of one sample: an entry for every frame, joint and node. -/
abbrev Channel : Type := Fin 128 → Fin 25 → Fin 6 → EReal

/-- The mean of a channel over the frames and the joints, at each node. -/
def mean (f : Channel) (u : Fin 6) : EReal := (∑ t, ∑ v, f t v u) * ((1 / 3200 : ℝ) : EReal)

/-- Minus the distance between two nodes' positions. -/
def nearness (p : Fin 3 → Fin 6 → EReal) (i j : Fin 6) : EReal :=
  0 - Ideal.sqrt (∑ k, (p k i - p k j) * (p k i - p k j) + Ideal.ofBits .f32 0x2B8CBCCC#32)

/-- One on the diagonal, zero off it. -/
def eye (i j : Fin 6) : EReal := if i = j then 1 else 0

/-- One if node `j` is among the four nodes nearest to node `i`, zero if not. -/
def nearest (p : Fin 3 → Fin 6 → EReal) (i j : Fin 6) : EReal := if rank (nearness p i) j < 4 then 1 else 0

/-- A node's score over the temperature. -/
def logit (b : Fin 6 → EReal) (i : Fin 6) : EReal := b i * ((33554432 / 11744051 : ℝ) : EReal)

/-- The greatest of the six logits. -/
def peak (b : Fin 6 → EReal) : EReal := Finset.univ.fold max (Ideal.ofBits .f32 0xFF800000#32) (logit b)

/-- A node's exponential, of its logit less the greatest one. -/
def weight (b : Fin 6 → EReal) (i : Fin 6) : EReal := Ideal.exp (logit b i - peak b)

/-- A node's share: the softmax of the logits. -/
def share (b : Fin 6 → EReal) (i : Fin 6) : EReal := Ideal.div (weight b i) (∑ j, weight b j)

/-- The graph's weights before they are normalised: half the two nodes' shares and half the nearest-node relation, each
    with its diagonal. -/
def adj (p : Fin 3 → Fin 6 → EReal) (b : Fin 6 → EReal) (i j : Fin 6) : EReal :=
  Ideal.ofBits .f32 0x3F000000#32 * (share b i + share b j + eye i j)
    + Ideal.ofBits .f32 0x3F000000#32 * (nearest p i j + eye i j)

/-- The reciprocal square root of a node's total weight. -/
def scale (p : Fin 3 → Fin 6 → EReal) (b : Fin 6 → EReal) (i : Fin 6) : EReal :=
  Ideal.rsqrt (∑ j, adj p b i j + Ideal.ofBits .f32 0x358637BD#32)

/-- The graph's normalised weights. -/
def link (p : Fin 3 → Fin 6 → EReal) (b : Fin 6 → EReal) (i j : Fin 6) : EReal := scale p b i * adj p b i j * scale p b j

/-- One step of message passing: a node's entry and a tenth of what its neighbours send it. -/
def step (p : Fin 3 → Fin 6 → EReal) (b : Fin 6 → EReal) (x : Fin 6 → EReal) (m : Fin 6) : EReal :=
  x m + Ideal.ofBits .f32 0x3DCCCCCD#32 * ∑ u, x u * link p b m u

/-- The layer's result for one sample: the graph of its first four channels, applied to every entry. -/
def layer (X : Fin 64 → Channel) (c : Fin 64) (t : Fin 128) (v : Fin 25) (m : Fin 6) : EReal :=
  step (fun k => mean (X ⟨k.val, by omega⟩)) (mean (X 3)) (fun u => X c t v u) m

end Tag

end
-- ==== Proof.Kernel.Words.lean ====
/- Facts of 32-bit words that the kernel's index arithmetic needs, and the sums over its 150 lanes. Lane `6 v + u`
   holds joint `v` of node `u`. -/
module

public import proofs.«01_k».proof.Proof.Spec.Layer
public import Idealize.ShloMosaic.Lib.Pointwise

@[expose] public section

noncomputable section

namespace Tag

open Idealize.ShloMosaic

/-! ## Lanes -/

/-- The lane of joint `v` and node `u`. -/
def lane (v : Fin 25) (u : Fin 6) : Fin 150 := ⟨v.val * 6 + u.val, by omega⟩

/-- The node of a lane. -/
def nodeOf (l : Fin 150) : Fin 6 := ⟨l.val % 6, Nat.mod_lt _ (by decide)⟩

/-- The joint of a lane. -/
def jointOf (l : Fin 150) : Fin 25 := ⟨l.val / 6, by omega⟩

theorem nodeOf_lane (v : Fin 25) (u : Fin 6) : nodeOf (lane v u) = u := Fin.ext (by
  show (v.val * 6 + u.val) % 6 = u.val; omega)

theorem jointOf_lane (v : Fin 25) (u : Fin 6) : jointOf (lane v u) = v := Fin.ext (by
  show (v.val * 6 + u.val) / 6 = v.val; omega)

theorem lane_of (l : Fin 150) : lane (jointOf l) (nodeOf l) = l := Fin.ext (by
  show l.val / 6 * 6 + l.val % 6 = l.val; omega)

/-- The lanes are the pairs of a joint and a node. -/
def lanes : Fin 25 × Fin 6 ≃ Fin 150 where
  toFun q := lane q.1 q.2
  invFun l := (jointOf l, nodeOf l)
  left_inv q := Prod.ext (jointOf_lane q.1 q.2) (nodeOf_lane q.1 q.2)
  right_inv l := lane_of l

/-- A sum over the lanes is a sum over the joints of sums over the nodes. -/
theorem sum_lanes (f : Fin 150 → EReal) : ∑ l, f l = ∑ v, ∑ u, f (lane v u) := by
  rw [← Fintype.sum_prod_type']
  exact (Equiv.sum_comp lanes f).symm

/-! ## The words of lanes -/

/-- The kernel's remainder of a lane by six, as a word, equals a node's word exactly at the lane's node. -/
theorem remainder_eq (l : Fin 150) (c : Fin 6) :
    BitVec.setWidth 32 (IntOp.cmpi CmpIPredicate.eq
      (Scalar.select
        (IntOp.andi
          (IntOp.xori
            (IntOp.cmpi CmpIPredicate.slt
              (IntOp.remsi ArithUnit.vector (BitVec.ofNat 32 l.val)
                (Scalar.select (Scalar.cmpi CmpIPredicate.eq 6#32 0#32) 1#32 6#32)) 0#32)
            (Scalar.cmpi CmpIPredicate.slt (Scalar.select (Scalar.cmpi CmpIPredicate.eq 6#32 0#32) 1#32 6#32) 0#32))
          (IntOp.cmpi CmpIPredicate.ne
            (IntOp.remsi ArithUnit.vector (BitVec.ofNat 32 l.val)
              (Scalar.select (Scalar.cmpi CmpIPredicate.eq 6#32 0#32) 1#32 6#32)) 0#32))
        (IntOp.addi
          (IntOp.remsi ArithUnit.vector (BitVec.ofNat 32 l.val)
            (Scalar.select (Scalar.cmpi CmpIPredicate.eq 6#32 0#32) 1#32 6#32))
          (Scalar.select (Scalar.cmpi CmpIPredicate.eq 6#32 0#32) 1#32 6#32))
        (IntOp.remsi ArithUnit.vector (BitVec.ofNat 32 l.val)
          (Scalar.select (Scalar.cmpi CmpIPredicate.eq 6#32 0#32) 1#32 6#32)))
      (BitVec.ofNat 32 c.val)) = if nodeOf l = c then 1#32 else 0#32 := by
  revert l c; decide +kernel

/-- The kernel's quotient of a lane by six, rounded down, is the word of the lane's joint. -/
theorem quotient_eq (l : Fin 150) :
    Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 6#32 0#32))
            (Scalar.extui (Scalar.cmpi CmpIPredicate.slt 6#32 0#32))))
        (IntOp.cmpi CmpIPredicate.ne (IntOp.remsi ArithUnit.vector (BitVec.ofNat 32 l.val) 6#32) 0#32))
      (IntOp.subi (IntOp.divsi ArithUnit.vector (BitVec.ofNat 32 l.val) 6#32) 1#32)
      (IntOp.divsi ArithUnit.vector (BitVec.ofNat 32 l.val) 6#32) = BitVec.ofNat 32 (jointOf l).val := by
  revert l; decide +kernel

/-- Two joints' words are equal exactly if the joints are. -/
theorem joint_cmp (v w : Fin 25) :
    BitVec.setWidth 32 (IntOp.cmpi CmpIPredicate.eq (BitVec.ofNat 32 v.val) (BitVec.ofNat 32 w.val))
      = if v = w then 1#32 else 0#32 := by
  revert v w; decide +kernel

/-- Two nodes' words are equal exactly if the nodes are. -/
theorem node_cmp (i j : Fin 6) :
    BitVec.setWidth 32 (IntOp.cmpi CmpIPredicate.eq (BitVec.ofNat 32 i.val) (BitVec.ofNat 32 j.val))
      = if i = j then 1#32 else 0#32 := by
  revert i j; decide +kernel

/-- A node's word is less than another's exactly if its number is. -/
theorem node_lt (i j : Fin 6) :
    IntOp.cmpi CmpIPredicate.slt (BitVec.ofNat 32 i.val) (BitVec.ofNat 32 j.val) = BitVec.ofBool (decide (i < j)) := by
  revert i j; decide +kernel

/-! ## Zeros and ones -/

/-- The float of a word that is one or zero. -/
theorem float_ite (P : Prop) [Decidable P] :
    (FloatOps.sitofp (F := Ideal) .f32 (if P then 1#32 else 0#32) : EReal) = if P then 1 else 0 := by
  split
  · show (((1#32 : BitVec 32).toInt : ℝ) : EReal) = 1
    simp
  · show (((0#32 : BitVec 32).toInt : ℝ) : EReal) = 0
    simp

/-- Adding up words of one and zero counts the ones. -/
theorem fold_count (s : Finset (Fin 6)) (P : Fin 6 → Prop) [DecidablePred P] :
    Finset.fold IntOp.addi 0#32 (fun x => if P x then 1#32 else 0#32) s = BitVec.ofNat 32 (s.filter P).card := by
  induction s using Finset.induction_on with
  | empty => rfl
  | insert i s hi ih =>
    rw [Finset.fold_insert hi, ih, Finset.filter_insert]
    split
    · rw [Finset.card_insert_of_notMem (fun h => hi (Finset.mem_filter.mp h).1)]
      show 1#32 + _ = _
      rw [BitVec.ofNat_add, BitVec.add_comm]
    · show 0#32 + _ = _
      rw [BitVec.zero_add]

/-- A count of at most six is below four as a word exactly if it is as a number. -/
theorem count_lt (n : Nat) (h : n ≤ 6) :
    BitVec.setWidth 32 (IntOp.cmpi CmpIPredicate.slt (BitVec.ofNat 32 n) 4#32) = if n < 4 then 1#32 else 0#32 := by
  have h' : ∀ k : Fin 7, BitVec.setWidth 32 (IntOp.cmpi CmpIPredicate.slt (BitVec.ofNat 32 k.val) 4#32)
      = if k.val < 4 then 1#32 else 0#32 := by decide +kernel
  exact h' ⟨n, by omega⟩

/-- The word of whether node `l` comes before node `j`. -/
theorem beats_word (D : Fin 6 → EReal) (l j : Fin 6) :
    BitVec.setWidth 32 (IntOp.ori (BitVec.ofBool (decide (D j < D l)))
      (IntOp.andi (BitVec.ofBool (decide (D l = D j))) (BitVec.ofBool (decide (l < j)))))
      = if Beats D l j then 1#32 else 0#32 := by
  have hw : ∀ a b c : Bool, BitVec.setWidth 32 (IntOp.ori (BitVec.ofBool a) (IntOp.andi (BitVec.ofBool b) (BitVec.ofBool c)))
      = if (a || (b && c)) = true then 1#32 else 0#32 := by decide
  rw [hw]
  refine if_congr ?_ rfl rfl
  unfold Beats
  simp only [Bool.or_eq_true, Bool.and_eq_true, decide_eq_true_eq]

end Tag

end
-- ==== Proof.Kernel.Graph.lean ====
/- What the kernel's body computes of a sample's first four channels: the means, the graph, and the matrix of 150 by 150
   that one step of message passing is the product with. -/
module

public import proofs.«01_k».proof.Proof.Kernel.Words
public import proofs.«01_k».proof.Proof.Gen.KernelIdeal.Skeleton

@[expose] public section

noncomputable section

namespace Cert.KernelIdeal.Body

open Idealize.ShloMosaic Cert.KernelIdeal Cert.KernelIdeal.Gen Tag

/-- The rows that the statistics are taken of, as channels: channel `c` of frame `t` is row `128 c + t`. -/
def headChannel (h : Vec Ideal S1x512x150 .f32) (c : Fin 4) : Channel := fun t v u =>
  h (ix3 0 (⟨c.val * 128 + t.val, by omega⟩ : Fin 512) (lane v u))

/-- The means of the first three of those channels. -/
def headPos (h : Vec Ideal S1x512x150 .f32) (k : Fin 3) : Fin 6 → EReal := mean (headChannel h ⟨k.val, by omega⟩)

/-- The means of the fourth of those channels. -/
def headScore (h : Vec Ideal S1x512x150 .f32) : Fin 6 → EReal := mean (headChannel h 3)

theorem inv_n_eq : Named.named (F := Ideal) κ "inv_n" (φ := .f32) 0x39A3D70A#32 = ((1 / 3200 : ℝ) : EReal) :=
  IdealRules.named_const.ideal_named_scalar _ _ _ _ rfl

theorem inv_tau_eq : Named.named (F := Ideal) κ "inv_tau" (φ := .f32) 0x4036DB6E#32
    = ((33554432 / 11744051 : ℝ) : EReal) :=
  IdealRules.named_const.ideal_named_scalar _ _ _ _ rfl

/-- The matrix that sorts the lanes by node: one where the lane's node is the row. -/
theorem pay3_apply (c : Fin 6) (l : Fin 150) :
    (k0_pay3 : FVec Ideal S6x150 .f32) (ix2 c l) = if nodeOf l = c then 1 else 0 := by
  pointwise [k0_pay3]
  rw [remainder_eq, float_ite]

/-- The means. -/
theorem pay4_apply (h : Vec Ideal S1x512x150 .f32) (c : Fin 4) (u : Fin 6) :
    k0_pay4 h (ix2 c u) = mean (headChannel h c) u := by
  pointwise [k0_pay4, dot_S4x150_S6x150_S4x6_1_1_0_0_n_n]
  rw [inv_n_eq]
  unfold mean
  congr 1
  rw [sum_lanes, Finset.sum_comm]
  simp only [pay3_apply, nodeOf_lane, mul_ite, mul_one, mul_zero]
  rw [Finset.sum_comm]
  simp only [Finset.sum_ite_eq', Finset.mem_univ, if_true]
  rw [Finset.sum_comm]
  rfl

theorem pay5_apply (h : Vec Ideal S1x512x150 .f32) (u : Fin 6) : k0_pay5 h (ix2 0 u) = headScore h u := by
  have e : k0_pay5 h (ix2 0 u) = k0_pay4 h (ix2 3 u) := by pointwise [k0_pay5]
  rw [e, pay4_apply]; rfl

/-- Minus the distances between the nodes. -/
theorem pay6_apply (h : Vec Ideal S1x512x150 .f32) (i j : Fin 6) : k0_pay6 h (ix2 i j) = nearness (headPos h) i j := by
  pointwise [k0_pay6]
  simp only [pay4_apply]
  rfl

theorem pay7_apply (h : Vec Ideal S1x512x150 .f32) (i j : Fin 6) :
    k0_pay7 h (ix3 i 0 j) = nearness (headPos h) i j := by
  have e : k0_pay7 h (ix3 i 0 j) = k0_pay6 h (ix2 i j) := by pointwise [k0_pay7]
  rw [e, pay6_apply]

theorem pay8_apply (i j : Fin 6) : (k0_pay8 : FVec Ideal S6x6 .f32) (ix2 i j) = eye i j := by
  pointwise [k0_pay8]
  rw [node_cmp, float_ite]
  rfl

/-- The numbers of the nodes along the last axis, and along the middle one. -/
abbrev lastNode : IVec S6x6x6 32 := iota .tc S6x6x6 32 [2] iota_S6x6x6_d2_w32
abbrev midNode : IVec S6x6x6 32 := iota .tc S6x6x6 32 [1] iota_S6x6x6_d1_w32

theorem lastNode_apply (i j l : Fin 6) : lastNode (ix3 i j l) = BitVec.ofNat 32 l.val := by pointwise [lastNode]
theorem midNode_apply (i j l : Fin 6) : midNode (ix3 i j l) = BitVec.ofNat 32 j.val := by pointwise [midNode]

/-- The graph's weights before they are normalised. -/
theorem pay9_apply (h : Vec Ideal S1x512x150 .f32) (i j : Fin 6) :
    k0_pay9 (k0_pay5 h) (k0_pay6 h) lastNode midNode (k0_pay7 h) (ix2 i j) = adj (headPos h) (headScore h) i j := by
  pointwise [k0_pay9]
  simp only [pay5_apply, pay6_apply, pay7_apply, pay8_apply, lastNode_apply, midNode_apply, node_lt, inv_tau_eq]
  simp only [beats_word]
  rw [fold_count, count_lt _ ((Finset.card_le_univ _).trans (by decide)), float_ite]
  rfl

/-- The reciprocal square roots of the total weights. -/
theorem pay10_apply (h : Vec Ideal S1x512x150 .f32) (i : Fin 6) :
    k0_pay10 (k0_pay5 h) (k0_pay6 h) lastNode midNode (k0_pay7 h) (ix2 i 0) = scale (headPos h) (headScore h) i := by
  pointwise [k0_pay10]
  simp only [pay9_apply]
  rfl

theorem pay11_apply (h : Vec Ideal S1x512x150 .f32) (i j : Fin 6) :
    k0_pay11 (k0_pay5 h) (k0_pay6 h) lastNode midNode (k0_pay7 h) (ix2 i j) = scale (headPos h) (headScore h) i := by
  have e : k0_pay11 (k0_pay5 h) (k0_pay6 h) lastNode midNode (k0_pay7 h) (ix2 i j)
      = k0_pay10 (k0_pay5 h) (k0_pay6 h) lastNode midNode (k0_pay7 h) (ix2 i 0) := by pointwise [k0_pay11]
  rw [e, pay10_apply]

/-- The entry of the mixing matrix: the diagonal and a tenth of the graph's weights, from node `u` to node `m`. -/
def mix (p : Fin 3 → Fin 6 → EReal) (b : Fin 6 → EReal) (u m : Fin 6) : EReal :=
  eye u m + Ideal.ofBits .f32 0x3DCCCCCD#32 * link p b m u

/-- The mixing matrix spread over the lanes, without regard to the joints. -/
abbrev spread (h : Vec Ideal S1x512x150 .f32) : FVec Ideal S150x150 .f32 :=
  k0_pay12 k0_pay3 k0_pay8 (k0_pay9 (k0_pay5 h) (k0_pay6 h) lastNode midNode (k0_pay7 h))
    (k0_pay10 (k0_pay5 h) (k0_pay6 h) lastNode midNode (k0_pay7 h))
    (k0_pay11 (k0_pay5 h) (k0_pay6 h) lastNode midNode (k0_pay7 h))

theorem spread_apply (h : Vec Ideal S1x512x150 .f32) (l l' : Fin 150) :
    spread h (ix2 l l') = mix (headPos h) (headScore h) (nodeOf l) (nodeOf l') := by
  pointwise [spread, k0_pay12, dot_S150x6_S6x150_S150x150_1_0_0_1_n_n, dot_S150x6_S6x6_S150x6_1_0_0_1_n_n]
  simp only [remainder_eq, float_ite, pay3_apply, pay8_apply, pay9_apply, pay10_apply, pay11_apply, ite_mul, mul_ite,
    one_mul, mul_one, zero_mul, mul_zero, Finset.sum_ite_eq, Finset.mem_univ, if_true]
  rfl

/-- The matrix that the kernel keeps: the mixing matrix within each joint. -/
abbrev kept (h : Vec Ideal S1x512x150 .f32) : FVec Ideal S150x150 .f32 :=
  k0_pay1 (spread h) (iota .tc S150x150 32 [0] iota_S150x150_d0_w32) (iota .tc S150x150 32 [1] iota_S150x150_d1_w32) 6#32
    k0_pay13 k0_pay14 (Scalar.extui (Scalar.cmpi .sgt 6#32 0#32)) (Scalar.extui (Scalar.cmpi .slt 6#32 0#32))

theorem kept_apply (h : Vec Ideal S1x512x150 .f32) (l l' : Fin 150) :
    kept h (ix2 l l')
      = if jointOf l = jointOf l' then mix (headPos h) (headScore h) (nodeOf l) (nodeOf l') else 0 := by
  have e13 : k0_pay13 (ix2 l l') = IntOp.divsi ArithUnit.vector (BitVec.ofNat 32 l.val) 6#32 := by pointwise [k0_pay13]
  have e14 : k0_pay14 (ix2 l l')
      = IntOp.subi (BitVec.setWidth 32 (IntOp.cmpi CmpIPredicate.sgt (BitVec.ofNat 32 l.val) 0#32))
          (BitVec.setWidth 32 (IntOp.cmpi CmpIPredicate.slt (BitVec.ofNat 32 l.val) 0#32)) := by pointwise [k0_pay14]
  pointwise [kept, k0_pay1]
  rw [e13, e14, quotient_eq, quotient_eq, joint_cmp, float_ite, spread_apply, mul_ite, mul_one, mul_zero]

/-- The body's result at a row and a lane: the row's product with the matrix that the kernel keeps. -/
theorem out_apply (x : Vec Ideal S1x8192x150 .f32) (h : Vec Ideal S1x512x150 .f32) (r : Fin 8192) (v : Fin 25)
    (m : Fin 6) :
    k0_pay2 x (kept h) (ix3 0 r (lane v m))
      = ∑ u, x (ix3 0 r (lane v u)) * mix (headPos h) (headScore h) u m := by
  have e : k0_pay2 x (kept h) (ix3 0 r (lane v m)) = ∑ l, x (ix3 0 r l) * kept h (ix2 l (lane v m)) := by
    pointwise [k0_pay2, dot_S8192x150_S150x150_S8192x150_1_0_0_1_n_n]
  rw [e, sum_lanes]
  simp only [kept_apply, jointOf_lane, nodeOf_lane, mul_ite, mul_zero]
  rw [Finset.sum_comm]
  simp only [Finset.sum_ite_eq', Finset.mem_univ, if_true]

end Cert.KernelIdeal.Body

end
-- ==== Proof.Kernel.Run.lean ====
/- What the array holds after the kernel has run: the kernel's body at each of the 32 samples' blocks, and then the
   program's result, the same array read in the argument's shape. -/
module

public import proofs.«01_k».proof.Proof.Kernel.Graph
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.KernelIdeal.Body

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The first 512 rows of a block. -/
def head (x : Vec Ideal S1x8192x150 .f32) : Vec Ideal S1x512x150 .f32 :=
  View.ld x (Rect.unit (s := S1x8192x150) ![0, 0, 0] S1x512x150.size inb_S1x8192x150_S1x512x150_0_0_0)

theorem head_apply (x : Vec Ideal S1x8192x150 .f32) (r : Fin 512) (l : Fin 150) :
    head x (ix3 0 r l) = x (ix3 0 (⟨r.val, by omega⟩ : Fin 8192) l) := by
  show x _ = x _
  congr 1
  funext a
  apply Fin.ext
  match a with
  | ⟨0, _⟩ => rfl
  | ⟨1, _⟩ => show 0 + 1 * r.val = r.val; omega
  | ⟨2, _⟩ => show 0 + 1 * l.val = l.val; omega

/-- What the body computes of a block. -/
def body (x : Vec Ideal S1x8192x150 .f32) : Vec Ideal S1x8192x150 .f32 := k0_pay2 x (kept (head x))

theorem off3 : (![0, 0, 0] : Fin 3 → Nat) = fun _ => 0 := funext fun a => by fin_cases a <;> rfl
theorem off2 : (![0, 0] : Fin 2 → Nat) = fun _ => 0 := funext fun a => by fin_cases a <;> rfl

/-- The body leaves what it computes of its input's block. -/
theorem out_A (c : Dev nD) (i : grid0.Coords) (a2 : Memref sig .tc .vmem S1x8192x150 .f32) (h2 : a2.IsWhole)
    (a3 : Memref sig .tc .vmem S1x8192x150 .f32) (h3 : a3.IsWhole) (a4 : Memref sig .tc .vmem S150x150 .f32)
    (h4 : a4.IsWhole) (hc : cond0_0 i) (x : Vec Ideal S1x8192x150 .f32) :
    out0_A_1 (F := Ideal) c i a2 h2 a3 h3 a4 h4 hc x = body x := by
  unfold out0_A_1
  rw [View.read_writes_eq_canon _ _ _ (cover0_A_1 (F := Ideal) c i a2 h2 a3 h3 a4 h4 hc x)]
  unfold kernelRun0_A
  dsimp only
  sl_unfold_words
  rw [View.canon_unit_zero (S := S1x8192x150) off3, View.readCov_unit_zero (S := S150x150) _ off2]
  simp only [View.readAt_eq_ld, h2.read_unread, View.ld_unit_zero (S := S1x8192x150) off3]
  rfl

/-- Sample `n`'s block of the array of blocks. -/
def slab (Y : Vec Ideal S32x8192x150 .f32) (n : Fin 32) : Vec Ideal S1x8192x150 .f32 := fun j =>
  Y (ix3 n (⟨(j 1).val, (j 1).isLt⟩ : Fin 8192) (⟨(j 2).val, (j 2).isLt⟩ : Fin 150))

/-- The array that the kernel leaves, of the array of blocks that it reads. -/
def blocks (Y : Vec Ideal S32x8192x150 .f32) : Vec Ideal S32x8192x150 .f32 := fun i =>
  body (slab Y (⟨(i 0).val, (i 0).isLt⟩ : Fin 32))
    (ix3 0 (⟨(i 1).val, (i 1).isLt⟩ : Fin 8192) (⟨(i 2).val, (i 2).isLt⟩ : Fin 150))

theorem index0 (t : Fin cfg0.N) : win0_0.index t 0 = t.val ∧ win0_0.index t 1 = 0 ∧ win0_0.index t 2 = 0 := by
  revert t; decide +kernel

theorem index1 (t : Fin cfg0.N) : win0_1.index t 0 = t.val ∧ win0_1.index t 1 = 0 ∧ win0_1.index t 2 = 0 := by
  revert t; decide +kernel

/-- The block that the body reads at a point is that sample's. -/
theorem iblk_eq (c : Dev nD) (t : Fin cfg0.N) (ht : t.val < 32) :
    (iblk m c 0 t : Vec Ideal S1x8192x150 .f32) = slab (V m c main_v0) ⟨t.val, ht⟩ := by
  funext j
  unfold iblk slab
  rw [View.read_apply]
  show V m c main_v0 _ = V m c main_v0 _
  congr 1
  funext a
  apply Fin.ext
  have h0 : (j 0 : Nat) < 1 := (j 0).isLt
  obtain ⟨e0, e1, e2⟩ := index0 t
  match a with
  | ⟨0, _⟩ => show win0_0.index t 0 * 1 + 1 * (j 0).val = t.val; rw [e0]; omega
  | ⟨1, _⟩ => show win0_0.index t 1 * 8192 + 1 * (j 1).val = (j 1).val; rw [e1]; omega
  | ⟨2, _⟩ => show win0_0.index t 2 * 150 + 1 * (j 2).val = (j 2).val; rw [e2]; omega

/-- What a point writes back is its block of the array of the blocks' results. -/
theorem flushed_eq (c : Dev nD) (t : Fin cfg0.N) (_ : (cfg0.win 1).flush t = true) :
    (dats m 0 c).flushed 1 t = ((cfg0.win 1).blk t).view.read (Elt Ideal) (blocks (V m c main_v0)) := by
  have ht : t.val < 32 := Nat.lt_of_lt_of_eq t.isLt N_0
  show (cfg0.win 1).cut (grid0.coords t) ((dats m 0 c).after 1 t) = _
  rw [after0_1]
  unfold outsAt0
  rw [out_A, iblk_eq m c t ht]
  obtain ⟨e0, e1, e2⟩ := index1 t
  funext j
  rw [View.read_apply]
  have h0 : (j 0 : Nat) < 1 := (j 0).isLt
  have hn : (⟨((((cfg0.win 1).blk t).view.emb j) 0).val, ((((cfg0.win 1).blk t).view.emb j) 0).isLt⟩ : Fin 32) = ⟨t.val, ht⟩ := by
    apply Fin.ext
    show win0_1.index t 0 * 1 + 1 * (j 0).val = t.val; rw [e0]; omega
  have hj : (ix3 0 (⟨((((cfg0.win 1).blk t).view.emb j) 1).val, ((((cfg0.win 1).blk t).view.emb j) 1).isLt⟩ : Fin 8192)
      (⟨((((cfg0.win 1).blk t).view.emb j) 2).val, ((((cfg0.win 1).blk t).view.emb j) 2).isLt⟩ : Fin 150)
        : S1x8192x150.Idx) = ix3 0 (⟨(j 1).val, (j 1).isLt⟩ : Fin 8192) (⟨(j 2).val, (j 2).isLt⟩ : Fin 150) := by
    funext a
    apply Fin.ext
    match a with
    | ⟨0, _⟩ => rfl
    | ⟨1, _⟩ => show win0_1.index t 1 * 8192 + 1 * (j 1).val = (j 1).val; rw [e1]; omega
    | ⟨2, _⟩ => show win0_1.index t 2 * 150 + 1 * (j 2).val = (j 2).val; rw [e2]; omega
  show body _ _ = body (slab _ _) (ix3 _ _ _)
  rw [hn]
  refine Eq.trans ?_ (congrArg (body (slab (V m c main_v0) ⟨t.val, ht⟩)) hj.symm)
  congr 1
  funext a
  apply Fin.ext
  match a with
  | ⟨0, _⟩ => show (j 0).val = 0; omega
  | ⟨1, _⟩ => rfl
  | ⟨2, _⟩ => rfl

/-- So the array ends holding every block's result: each point covers its own sample. -/
theorem final (c : Dev nD) : (dats m 0 c).arrAt 1 cfg0.N = blocks (V m c main_v0) :=
  (dats m 0 c).arrAt_eq_of_cover 1 (blocks (V m c main_v0)) (flushed_eq m c) fun i => by
    have h0 : (i 0 : Nat) < 32 := (i 0).isLt
    have h1 : (i 1 : Nat) < 8192 := (i 1).isLt
    have h2 : (i 2 : Nat) < 150 := (i 2).isLt
    let t : Fin cfg0.N := ⟨(i 0).val, Nat.lt_of_lt_of_eq h0 N_0.symm⟩
    obtain ⟨e0, e1, e2⟩ := index1 t
    have et : t.val = (i 0 : Nat) := rfl
    refine ⟨t, (flush0_1 t), ?_⟩
    show i ∈ ((View.whole main_v1).slice (win0_1.rect t)).set
    rw [View.set_slice_whole, Rect.mem_set_unit]
    intro a
    match a with
    | ⟨0, _⟩ =>
      show win0_1.index t 0 * 1 ≤ (i 0 : Nat) ∧ (i 0 : Nat) < win0_1.index t 0 * 1 + 1
      rw [e0]; omega
    | ⟨1, _⟩ =>
      show win0_1.index t 1 * 8192 ≤ (i 1 : Nat) ∧ (i 1 : Nat) < win0_1.index t 1 * 8192 + 8192
      rw [e1]; omega
    | ⟨2, _⟩ =>
      show win0_1.index t 2 * 150 ≤ (i 2 : Nat) ∧ (i 2 : Nat) < win0_1.index t 2 * 150 + 150
      rw [e2]; omega

/-- The array of blocks is the argument in another shape. -/
theorem V_blocks (c : Dev nD) : V m c main_v0
    = shapeCast S32x8192x150 (m ((c : Thread nD τ).loc main_arg0)) shapeCasts_S32x64x128x25x6_S32x8192x150 := by
  show StableHlo.after (hostOps0 : List (HloOp τ sig (Elt Ideal))) _ _ = _
  unfold hostOps0
  after_results
  rfl

/-- The program's result: the kernel's array in the argument's shape. -/
def result (x : Vec Ideal S32x64x128x25x6 .f32) : Vec Ideal S32x64x128x25x6 .f32 :=
  shapeCast S32x64x128x25x6 (blocks (shapeCast S32x8192x150 x shapeCasts_S32x64x128x25x6_S32x8192x150))
    shapeCasts_S32x8192x150_S32x64x128x25x6

theorem tail (c : Dev nD) : Pipeline.afterTail₀ cfgs (dats m) 0 (V0 m) [hostOps1] c main_v2
    = result (m ((c : Thread nD τ).loc main_arg0)) := by
  unfold Pipeline.afterTail₀ result
  rw [← V_blocks, ← final]
  show StableHlo.after (hostOps1 : List (HloOp τ sig (Elt Ideal))) _ _ = _
  unfold hostOps1
  after_results
  exact congrArg (fun y : Vec Ideal S32x8192x150 .f32 => shapeCast S32x64x128x25x6 y shapeCasts_S32x8192x150_S32x64x128x25x6)
    (Pipeline.withArrays_arr spec0 (by decide) c (V0 m c) (fun w => (dats m 0 c).arrAt w cfg0.N) 1)

/-- The program's run: its result is that, and its argument is unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans (tail m c),
      ((h c).2 main_arg0 (Pipeline.mem_restRefs_of main_arg0 (by decide) (by decide))).trans (W_main_arg0 m (dats m) c)⟩)
    (run_main m ρ)

end Cert.KernelIdeal.Body

end
-- ==== Proof.Spec.Mix.lean ====
/- Facts of the layer's mathematics: the constants, where the graph's weights are nonnegative, and one step of message
   passing written as a product with one matrix. -/
module

public import proofs.«01_k».proof.Proof.Spec.Layer
public import Mathlib.Data.EReal.Operations

@[expose] public section

noncomputable section

namespace Tag

open Idealize.ShloMosaic

/-! ## The constants -/

/-- The word of one half, as a number. -/
theorem half_eq : Ideal.ofBits .f32 0x3F000000#32 = ((1 / 2 : ℝ) : EReal) := by
  simp [Ideal.ofBits, Ideal.ieee, -EReal.coe_mul]; norm_num

/-- The word nearest to one tenth, as a number. -/
theorem tenth_eq : Ideal.ofBits .f32 0x3DCCCCCD#32 = ((13421773 / 134217728 : ℝ) : EReal) := by
  simp [Ideal.ofBits, Ideal.ieee, -EReal.coe_mul]; norm_num

/-- The word added to a node's total weight, as a number. -/
theorem tiny_eq : Ideal.ofBits .f32 0x358637BD#32 = ((8796093 / 8796093022208 : ℝ) : EReal) := by
  simp [Ideal.ofBits, Ideal.ieee, -EReal.coe_mul]; norm_num

/-- The word of the temperature, as a number. -/
theorem tau_eq : Ideal.ofBits .f32 0x3EB33333#32 = ((11744051 / 33554432 : ℝ) : EReal) := by
  simp [Ideal.ofBits, Ideal.ieee, -EReal.coe_mul]; norm_num

/-- The word of the count of frames and joints, as a number. -/
theorem count_eq : Ideal.ofBits .f32 0x45480000#32 = ((3200 : ℝ) : EReal) := by
  simp [Ideal.ofBits, Ideal.ieee, -EReal.coe_mul]; norm_num

/-- The word of minus infinity is the least extended real. -/
theorem bot_eq : Ideal.ofBits .f32 0xFF800000#32 = ⊥ := by
  simp [Ideal.ofBits, Ideal.ieee]

/-- The word of plus infinity is the greatest extended real. -/
theorem top_eq : Ideal.ofBits .f32 0x7F800000#32 = ⊤ := by
  simp [Ideal.ofBits, Ideal.ieee]

theorem half_nonneg : 0 ≤ Ideal.ofBits .f32 0x3F000000#32 := by
  rw [half_eq]; exact_mod_cast (by norm_num : (0 : ℝ) ≤ 1 / 2)

theorem tenth_nonneg : 0 ≤ Ideal.ofBits .f32 0x3DCCCCCD#32 := by
  rw [tenth_eq]; exact_mod_cast (by norm_num : (0 : ℝ) ≤ 13421773 / 134217728)

theorem tenth_ne_top : Ideal.ofBits .f32 0x3DCCCCCD#32 ≠ ⊤ := by
  rw [tenth_eq]; exact EReal.coe_ne_top _

theorem tiny_pos : 0 < Ideal.ofBits .f32 0x358637BD#32 := by
  rw [tiny_eq]; exact_mod_cast (by norm_num : (0 : ℝ) < 8796093 / 8796093022208)

/-! ## The scores are finite -/

/-- A finite sum of extended reals that are real numbers is a real number. -/
theorem sum_coe {ι : Type} (s : Finset ι) (f : ι → EReal) (h : ∀ i, ∃ r : ℝ, f i = r) : ∃ r : ℝ, ∑ i ∈ s, f i = r := by
  classical
  induction s using Finset.induction_on with
  | empty => exact ⟨0, by simp⟩
  | insert i s hi ih =>
    obtain ⟨r, hr⟩ := ih
    obtain ⟨q, hq⟩ := h i
    exact ⟨q + r, by rw [Finset.sum_insert hi, hr, hq, EReal.coe_add]⟩

/-- The mean of a channel of real numbers is a real number. -/
theorem mean_coe (f : Channel) (h : ∀ t v u, ∃ r : ℝ, f t v u = r) (u : Fin 6) : ∃ r : ℝ, mean f u = r := by
  obtain ⟨r, hr⟩ := sum_coe Finset.univ (fun t => ∑ v, f t v u) fun t => sum_coe _ _ fun v => h t v u
  exact ⟨r * (1 / 3200), by unfold mean; rw [hr, EReal.coe_mul]⟩

/-- The greatest logit is one of the logits. -/
theorem peak_mem (b : Fin 6 → EReal) : ∃ i, peak b = logit b i := by
  have h : peak b = Finset.univ.sup' Finset.univ_nonempty (logit b) := by
    unfold peak
    rw [bot_eq, Finset.sup'_eq_sup]
    rfl
  obtain ⟨i, -, hi⟩ := Finset.exists_mem_eq_sup' (Finset.univ_nonempty (α := Fin 6)) (logit b)
  exact ⟨i, h.trans hi⟩

/-! ## The weights are nonnegative -/

theorem exp_nonneg (x : EReal) : 0 ≤ Ideal.exp x := by
  induction x with
  | bot => exact le_refl _
  | top => exact le_top
  | coe r => exact EReal.coe_nonneg.mpr (Real.exp_pos r).le

/-- If the scores are real numbers, the exponentials' sum is positive: the greatest logit's exponential is one. -/
theorem sum_weight_pos (b : Fin 6 → EReal) (h : ∀ i, ∃ r : ℝ, b i = r) : 0 < ∑ j, weight b j := by
  obtain ⟨i, hi⟩ := peak_mem b
  obtain ⟨r, hr⟩ := h i
  have h1 : weight b i = 1 := by
    unfold weight
    rw [hi]
    unfold logit
    rw [hr, ← EReal.coe_mul, ← EReal.coe_sub, sub_self]
    show ((Real.exp 0 : ℝ) : EReal) = 1
    rw [Real.exp_zero]; rfl
  calc (0 : EReal) < 1 := zero_lt_one
    _ = weight b i := h1.symm
    _ ≤ ∑ j, weight b j := Finset.single_le_sum (f := weight b) (fun j _ => exp_nonneg (logit b j - peak b)) (Finset.mem_univ i)

theorem share_nonneg (b : Fin 6 → EReal) (h : ∀ i, ∃ r : ℝ, b i = r) (i : Fin 6) : 0 ≤ share b i := by
  have hs := sum_weight_pos b h
  unfold share Ideal.div
  rw [if_neg hs.ne']
  exact mul_nonneg (exp_nonneg _) (EReal.inv_nonneg_of_nonneg hs.le)

theorem eye_nonneg (i j : Fin 6) : 0 ≤ eye i j := by
  unfold eye; split
  · exact zero_le_one
  · exact le_refl _

theorem nearest_nonneg (p : Fin 3 → Fin 6 → EReal) (i j : Fin 6) : 0 ≤ nearest p i j := by
  unfold nearest; split
  · exact zero_le_one
  · exact le_refl _

theorem adj_nonneg (p : Fin 3 → Fin 6 → EReal) (b : Fin 6 → EReal) (h : ∀ i, ∃ r : ℝ, b i = r) (i j : Fin 6) :
    0 ≤ adj p b i j := by
  unfold adj
  exact add_nonneg
    (mul_nonneg half_nonneg (add_nonneg (add_nonneg (share_nonneg b h i) (share_nonneg b h j)) (eye_nonneg i j)))
    (mul_nonneg half_nonneg (add_nonneg (nearest_nonneg p i j) (eye_nonneg i j)))

theorem rsqrt_nonneg (x : EReal) (h : 0 ≤ x) : 0 ≤ Ideal.rsqrt x := by
  induction x with
  | bot => exact absurd h (by simp)
  | top => exact le_refl _
  | coe r =>
    have hr : ¬ r < 0 := not_lt.mpr (EReal.coe_nonneg.mp h)
    show 0 ≤ (if r < 0 then (⊥ : EReal) else if r = 0 then ⊤ else (((Real.sqrt r)⁻¹ : ℝ) : EReal))
    rw [if_neg hr]
    split
    · exact le_top
    · exact EReal.coe_nonneg.mpr (inv_nonneg.mpr (Real.sqrt_nonneg r))

/-- If the scores are real numbers, the graph's normalised weights are nonnegative. -/
theorem link_nonneg (p : Fin 3 → Fin 6 → EReal) (b : Fin 6 → EReal) (h : ∀ i, ∃ r : ℝ, b i = r) (i j : Fin 6) :
    0 ≤ link p b i j := by
  have hs : ∀ k, 0 ≤ scale p b k := fun k =>
    rsqrt_nonneg _ (add_nonneg (Finset.sum_nonneg fun l _ => adj_nonneg p b h k l) tiny_pos.le)
  unfold link
  exact mul_nonneg (mul_nonneg (hs i) (adj_nonneg p b h i j)) (hs j)

/-! ## One step as one product -/

/-- A nonnegative finite factor goes into a sum. -/
theorem mul_sum_of_nonneg {ι : Type} (s : Finset ι) (a : EReal) (h : 0 ≤ a) (h' : a ≠ ⊤) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h h', ih]

/-- One step of message passing is the product of the six entries with the matrix of the diagonal and a tenth of the
    graph's weights, if the scores are real numbers. -/
theorem step_eq_sum (p : Fin 3 → Fin 6 → EReal) (b : Fin 6 → EReal) (h : ∀ i, ∃ r : ℝ, b i = r) (x : Fin 6 → EReal)
    (m : Fin 6) :
    ∑ u, x u * (eye u m + Ideal.ofBits .f32 0x3DCCCCCD#32 * link p b m u) = step p b x m := by
  have hl := link_nonneg p b h m
  unfold step
  rw [mul_sum_of_nonneg _ _ tenth_nonneg tenth_ne_top]
  have h1 : ∀ u, x u * (eye u m + Ideal.ofBits .f32 0x3DCCCCCD#32 * link p b m u)
      = x u * eye u m + Ideal.ofBits .f32 0x3DCCCCCD#32 * (x u * link p b m u) := fun u => by
    rw [EReal.left_distrib_of_nonneg (eye_nonneg u m) (mul_nonneg tenth_nonneg (hl u)), mul_left_comm]
  simp only [h1, Finset.sum_add_distrib]
  congr 1
  simp [eye]

end Tag

end
-- ==== Proof.Kernel.Value.lean ====
/- The kernel's result at an index: the layer's, where the scores' channel is finite. -/
module

public import proofs.«01_k».proof.Proof.Kernel.Run
public import proofs.«01_k».proof.Proof.Spec.Mix

@[expose] public section

noncomputable section

namespace Cert.KernelIdeal.Body

open Idealize.ShloMosaic Cert.KernelIdeal Cert.KernelIdeal.Gen Tag

variable (x : Vec Ideal S32x64x128x25x6 .f32)

/-- One sample's channels. -/
def sample (n : Fin 32) (c : Fin 64) : Channel := fun t v u => x (ix5 n c t v u)

/-- The argument as the array of blocks that the kernel reads. -/
def flat : Vec Ideal S32x8192x150 .f32 := shapeCast S32x8192x150 x shapeCasts_S32x64x128x25x6_S32x8192x150

theorem flat_apply (n : Fin 32) (c : Fin 64) (t : Fin 128) (v : Fin 25) (u : Fin 6) :
    flat x (ix3 n (⟨c.val * 128 + t.val, by omega⟩ : Fin 8192) (lane v u)) = x (ix5 n c t v u) := by
  show flat x (ix3 n (⟨c.val * 128 + t.val, _⟩ : Fin 8192) (⟨v.val * 6 + u.val, _⟩ : Fin 150)) = _
  pointwise [flat]

theorem unflat_apply (Y : Vec Ideal S32x8192x150 .f32) (n : Fin 32) (c : Fin 64) (t : Fin 128) (v : Fin 25) (u : Fin 6) :
    shapeCast S32x64x128x25x6 Y shapeCasts_S32x8192x150_S32x64x128x25x6 (ix5 n c t v u)
      = Y (ix3 n (⟨c.val * 128 + t.val, by omega⟩ : Fin 8192) (lane v u)) := by
  pointwise
  rfl

/-- The first rows of a sample's block are its first four channels. -/
theorem head_channel (n : Fin 32) (c : Fin 4) :
    headChannel (head (slab (flat x) n)) c = sample x n ⟨c.val, by omega⟩ := by
  funext t v u
  exact (head_apply _ _ _).trans (flat_apply x n ⟨c.val, by omega⟩ t v u)

/-- The kernel's result at an index: the joint's row of the argument against the sample's mixing matrix. -/
theorem result_mix (n : Fin 32) (c : Fin 64) (t : Fin 128) (v : Fin 25) (m : Fin 6) :
    result x (ix5 n c t v m)
      = ∑ u, x (ix5 n c t v u)
          * mix (fun k => mean (sample x n ⟨k.val, by omega⟩)) (mean (sample x n 3)) u m := by
  have hp : headPos (head (slab (flat x) n)) = fun k => mean (sample x n ⟨k.val, by omega⟩) :=
    funext fun k => congrArg mean (head_channel x n ⟨k.val, by omega⟩)
  have hb : headScore (head (slab (flat x) n)) = mean (sample x n 3) := congrArg mean (head_channel x n 3)
  refine (unflat_apply (blocks (flat x)) n c t v m).trans ?_
  refine (out_apply (slab (flat x) n) (head (slab (flat x) n)) (⟨c.val * 128 + t.val, by omega⟩ : Fin 8192) v m).trans ?_
  rw [hp, hb]
  exact Finset.sum_congr rfl fun u _ => congrArg (· * _) (flat_apply x n c t v u)

/-- The kernel computes the layer, of an argument whose scores' channel is finite. -/
theorem result_layer (h : ∀ n t v u, ∃ r : ℝ, x (ix5 n (3 : Fin 64) t v u) = r) (n : Fin 32) (c : Fin 64) (t : Fin 128)
    (v : Fin 25) (m : Fin 6) : result x (ix5 n c t v m) = layer (sample x n) c t v m :=
  (result_mix x n c t v m).trans
    (step_eq_sum _ _ (fun i => mean_coe _ (fun t v u => h n t v u) i) (fun u => x (ix5 n c t v u)) m)

end Cert.KernelIdeal.Body

end
-- ==== Proof.Reference.Value.lean ====
/- The reference's result at an index: the layer's. -/
module

public import proofs.«01_k».proof.Proof.Gen.ReferenceIdeal.Read
public import proofs.«01_k».proof.Proof.Spec.Mix
public import Idealize.ShloMosaic.Lib.Pointwise

@[expose] public section

noncomputable section

namespace Cert.ReferenceIdeal.Read

open Idealize.ShloMosaic Cert.ReferenceIdeal Cert.ReferenceIdeal.Gen Tag

variable (x : Vec Ideal S32x64x128x25x6 .f32)

/-- One sample's channels. -/
def sample (n : Fin 32) (c : Fin 64) : Channel := fun t v u => x (ix5 n c t v u)

/-- The positions' channels' means. -/
def pos (n : Fin 32) (k : Fin 3) : Fin 6 → EReal := mean (sample x n ⟨k.val, by omega⟩)

/-- The scores' channel's mean. -/
def score (n : Fin 32) : Fin 6 → EReal := mean (sample x n 3)

/-- A sum over the middle two of four axes. -/
theorem sum_middle (y : Vec Ideal S32x128x25x6 .f32) (c : EReal) (n : Fin 32) (u : Fin 6) :
    Ideal.hostReduceAdd reducesTo_S32x128x25x6_S32x6_d1_2 y c (ix2 n u) = c + ∑ t, ∑ v, y (ix4 n t v u) := by
  unfold Ideal.hostReduceAdd
  refine congrArg (c + ·) ?_
  refine (Finset.sum_filter_eq_sum_of_fiber _ (fun q : Fin 128 × Fin 25 => (ix4 n q.1 q.2 u : S32x128x25x6.Idx))
    (fun _ _ e => Prod.ext (congrFun e 1) (congrFun e 2)) (fun i => ?_) y).trans
    (Fintype.sum_prod_type _)
  constructor
  · rintro e
    have e0 : i 0 = n := Fin.ext (congrArg Fin.val (congrFun e 0))
    have e3 : i 3 = u := Fin.ext (congrArg Fin.val (congrFun e 1))
    refine ⟨(i 1, i 2), ?_⟩
    funext a
    match a with
    | ⟨0, _⟩ => exact e0.symm
    | ⟨1, _⟩ => rfl
    | ⟨2, _⟩ => rfl
    | ⟨3, _⟩ => exact e3.symm
  · rintro ⟨q, rfl⟩
    funext b
    apply Fin.ext
    match b with
    | ⟨0, _⟩ => rfl
    | ⟨1, _⟩ => rfl

/-- Division by the count of frames and joints. -/
theorem div_count (a : EReal) : Ideal.div a (Ideal.ofBits .f32 0x45480000#32) = a * ((1 / 3200 : ℝ) : EReal) := by
  rw [count_eq, Ideal.div_coe (by norm_num)]

/-- Division by the temperature. -/
theorem div_tau (a : EReal) : Ideal.div a (Ideal.ofBits .f32 0x3EB33333#32) = a * ((33554432 / 11744051 : ℝ) : EReal) := by
  rw [tau_eq, Ideal.div_coe (by norm_num)]
  norm_num

/-- The positions' means. -/
theorem pos_read (n : Fin 32) (k : Fin 3) (u : Fin 6) : val_main_v3 x (ix3 n k u) = pos x n k u := by
  pointwise [val_main_v3, val_main_v2, val_main_cst_0, val_main_cst, val_main_v1, val_main_v0]
  exact div_count _

/-- The scores' mean. -/
theorem score_read (n : Fin 32) (u : Fin 6) : val_main_v9 x (ix2 n u) = score x n u := by
  pointwise [val_main_v9, val_main_v8, val_main_cst_2, val_main_cst_1, val_main_v7, val_main_v6, val_main_v5]
  rw [sum_middle]
  pointwise
  exact div_count _

/-- Minus the distances between the nodes. -/
theorem nearness_read (n : Fin 32) (i j : Fin 6) : val_main_v20 x (ix3 n i j) = nearness (pos x n) i j := by
  pointwise [val_main_v20, val_main_v19, val_main_v18, val_main_v17, val_main_v16, val_main_v15, val_main_v14,
    val_main_v13, val_main_v12, val_main_v11, val_main_v10, val_main_v4, val_main_cst_3, val_main_cst_4]
  simp only [pos_read]
  unfold nearness
  rw [zero_sub]

/-- The number of the node at place `k` of node `i`'s nearest nodes. -/
theorem indices_read (n : Fin 32) (i : Fin 6) (k : Fin 4) :
    val_main_indices x (ix3 n i k)
      = BitVec.ofNat 32 (sortedFrom (fun a b => decide (nearness (pos x n) i b < nearness (pos x n) i a))
          (k.castLE (by decide) : Fin 6)).val := by
  simp only [← nearness_read]
  unfold val_main_indices Host.topK Host.sort2
  generalize (val_main_v20 x : S32x6x6.Idx → Ideal .f32) = y
  dsimp only
  rw [dif_pos (show 2 < S32x6x6.rank by decide)]
  dsimp only
  let j : S32x6x6.Idx := ix3 n i (k.castLE (by decide) : Fin 6)
  have hj : ∀ q : Fin 6, j.along 2 q = ix3 n i q := fun q => by
    funext a
    match a with
    | ⟨0, _⟩ => rfl
    | ⟨1, _⟩ => rfl
    | ⟨2, _⟩ => rfl
  have hs : (fun a b : Fin 6 => FloatOps.cmpfTotal (F := Ideal) (φ := .f32) CmpDirection.gt (y (j.along 2 a)) (y (j.along 2 b)) == 1#1)
      = fun a b => decide (y (ix3 n i b) < y (ix3 n i a)) := by
    funext a b
    rw [hj, hj]
    show (BitVec.ofBool (decide (y (ix3 n i b) < y (ix3 n i a))) == 1#1) = _
    cases decide (y (ix3 n i b) < y (ix3 n i a)) <;> rfl
  have e : ∀ J : S32x6x6.Idx, J = j →
      (if hd : 2 < 3 then iotaInDim S32x6x6 32 ⟨2, hd⟩ (J.along 2 (sortedFrom (fun a b : Fin 6 =>
          FloatOps.cmpfTotal (F := Ideal) (φ := .f32) CmpDirection.gt (y (J.along 2 a)) (y (J.along 2 b)) == 1#1) (J 2))) else 0#32)
        = BitVec.ofNat 32 (sortedFrom (fun a b => decide (y (ix3 n i b) < y (ix3 n i a)))
          (k.castLE (by decide) : Fin 6)).val := by
    rintro J rfl
    rw [dif_pos (by decide), hs]
    rfl
  refine e _ ?_
  funext a
  apply Fin.ext
  match a with
  | ⟨0, _⟩ => exact Nat.zero_add _
  | ⟨1, _⟩ => exact Nat.zero_add _
  | ⟨2, _⟩ => exact Nat.zero_add _

/-- A comparison of two nodes' numbers as a float: one if they are the same node, zero if not. -/
theorem float_same (i j : Fin 6) :
    (FloatOps.uitofp FTy.f32 (IntOp.cmpi CmpIPredicate.eq (BitVec.ofNat 32 i.val) (BitVec.ofNat 32 j.val)) : Ideal .f32)
      = if i = j then (1 : EReal) else 0 := by
  have h : IntOp.cmpi CmpIPredicate.eq (BitVec.ofNat 32 i.val) (BitVec.ofNat 32 j.val) = if i = j then 1#1 else 0#1 := by
    revert i j; decide +kernel
  rw [h]
  split
  · show (((1#1 : BitVec 1).toNat : ℝ) : EReal) = 1
    simp
  · show (((0#1 : BitVec 1).toNat : ℝ) : EReal) = 0
    simp

/-- The one-hot rows' sum: the nearest-node relation. -/
theorem nearest_read (n : Fin 32) (i j : Fin 6) : val_main_v22 x (ix3 n i j) = nearest (pos x n) i j := by
  pointwise [val_main_v22, val_main_v21, val_main_call0_v4, val_main_call0_v3, val_main_call0_v2, val_main_call0_v1,
    val_main_call0_v0, val_main_cst_5]
  simp only [indices_read, float_same]
  exact sum_first_four (nearness (pos x n) i) j

theorem min_nearest (p : Fin 3 → Fin 6 → EReal) (i j : Fin 6) : min (nearest p i j) 1 = nearest p i j := by
  unfold nearest
  split
  · exact min_self _
  · exact min_eq_left zero_le_one

/-- The first diagonal. -/
theorem eye_read (i j : Fin 6) : val_main_v30 (F := Ideal) (ix2 i j) = eye i j := by
  pointwise [val_main_v30, val_main_v29, val_main_v28, val_main_v27, val_main_v26, val_main_v25, val_main_c]
  rw [show IntOp.addi (BitVec.ofNat 32 i.val) 0#32 = BitVec.ofNat 32 i.val from BitVec.add_zero _]
  exact float_same i j

/-- The second diagonal. -/
theorem eye_read' (i j : Fin 6) : val_main_v57 (F := Ideal) (ix2 i j) = eye i j := by
  pointwise [val_main_v57, val_main_v56, val_main_v55, val_main_v54, val_main_v53, val_main_v52, val_main_c_11]
  rw [show IntOp.addi (BitVec.ofNat 32 i.val) 0#32 = BitVec.ofNat 32 i.val from BitVec.add_zero _]
  exact float_same i j

/-- The softmax of the scores. -/
theorem share_read (n : Fin 32) (i : Fin 6) : val_main_v46 x (ix2 n i) = share (score x n) i := by
  pointwise [val_main_v46, val_main_v45, val_main_v44, val_main_v43, val_main_v42, val_main_v41, val_main_v40,
    val_main_v39, val_main_v38, val_main_v37, val_main_v36, val_main_v35, val_main_v34, val_main_cst_7, val_main_cst_8,
    val_main_cst_9, val_main_cst_10]
  simp only [score_read, div_tau]
  rw [show max (Ideal.ofBits .f32 0xFF800000#32) (Finset.univ.fold max (Ideal.ofBits .f32 0xFF800000#32)
      fun q => score x n q * ((33554432 / 11744051 : ℝ) : EReal)) = peak (score x n) from by
    rw [show Ideal.ofBits .f32 0xFF800000#32 = ⊥ from bot_eq, max_eq_right bot_le]
    unfold peak
    rw [bot_eq]
    rfl]
  rfl

/-- The graph's weights. -/
theorem adj_read (n : Fin 32) (i j : Fin 6) : val_main_v65 x (ix3 n i j) = adj (pos x n) (score x n) i j := by
  pointwise [val_main_v65, val_main_v64, val_main_v63, val_main_v62, val_main_v61, val_main_v60, val_main_v59,
    val_main_v58, val_main_v51, val_main_v47, val_main_v48, val_main_v49, val_main_v50, val_main_v33, val_main_v32,
    val_main_v31, val_main_v24, val_main_v23, val_main_cst_6, val_main_cst_12, val_main_cst_13]
  simp only [share_read, nearest_read, eye_read, eye_read', min_nearest]
  rfl

/-- The reciprocal square roots of the nodes' total weights. -/
theorem scale_read (n : Fin 32) (i : Fin 6) : val_main_v69 x (ix2 n i) = scale (pos x n) (score x n) i := by
  pointwise [val_main_v69, val_main_v68, val_main_v67, val_main_v66, val_main_cst_14, val_main_cst_15]
  simp only [adj_read]
  rfl

/-- The graph's normalised weights. -/
theorem link_read (n : Fin 32) (i j : Fin 6) : val_main_v75 x (ix3 n i j) = link (pos x n) (score x n) i j := by
  pointwise [val_main_v75, val_main_v74, val_main_v73, val_main_v72, val_main_v71, val_main_v70]
  simp only [adj_read, scale_read]
  rfl

/-- The reference's result at an index is the layer's. -/
theorem reference_layer (n : Fin 32) (c : Fin 64) (t : Fin 128) (v : Fin 25) (m : Fin 6) :
    val_main_v79 x (ix5 n c t v m) = layer (sample x n) c t v m := by
  have h : val_main_v76 x (ix5 n c t v m) = ∑ u, x (ix5 n c t v u) * link (pos x n) (score x n) m u := by
    rw [val_main_v76_apply]
    refine Finset.sum_congr rfl fun u _ => ?_
    rw [← link_read]
    have hl : lidx_main_v76 (ix5 n c t v m) u = ix5 n c t v u := by
      funext a; match a with
      | ⟨0, _⟩ => rfl
      | ⟨1, _⟩ => rfl
      | ⟨2, _⟩ => rfl
      | ⟨3, _⟩ => rfl
      | ⟨4, _⟩ => rfl
    have hr : ridx_main_v76 (ix5 n c t v m) u = ix3 n m u := by
      funext a; match a with
      | ⟨0, _⟩ => rfl
      | ⟨1, _⟩ => rfl
      | ⟨2, _⟩ => rfl
    rw [hl, hr]
  pointwise [val_main_v79, val_main_v78, val_main_v77, val_main_cst_16]
  rw [h]
  rfl

end Cert.ReferenceIdeal.Read

end
-- ==== Proof.Finite.lean ====
/- What the precondition says: every entry of the scores' channel is a real number. -/
module

public import proofs.«01_k».proof.Proof.Gen.Pre_scores_finite
public import proofs.«01_k».proof.Proof.Spec.Mix
public import Idealize.ShloMosaic.Lib.Pointwise

@[expose] public section

noncomputable section

namespace Cert.Pre_scores_finite

open Idealize.ShloMosaic Cert.Pre_scores_finite Tag

/-- An extended real whose absolute value is less than plus infinity is a real number. -/
theorem coe_of_abs_lt_top (a : EReal) (h : max a (-a) < ⊤) : ∃ r : ℝ, a = r := by
  induction a with
  | bot => simp at h
  | top => simp at h
  | coe r => exact ⟨r, rfl⟩

/-- Where the precondition holds, every entry of channel 3 is a real number. -/
theorem finite_of_fn (x : Vec Ideal S32x64x128x25x6 .f32) (h : fn (F := Ideal) x = fun _ => 1#1)
    (n : Fin 32) (t : Fin 128) (v : Fin 25) (u : Fin 6) : ∃ r : ℝ, x (ix5 n (3 : Fin 64) t v u) = r := by
  have e := congrFun h (ix4 n t v u)
  revert e
  pointwise [fn]
  rw [top_eq]
  intro e
  refine coe_of_abs_lt_top _ ?_
  by_contra hn
  have ed : decide (FloatOps.absf (x (ix5 n (3 : Fin 64) t v u)) < (⊤ : Ideal .f32)) = false := decide_eq_false hn
  exact absurd ((congrArg BitVec.ofBool ed).symm.trans e) (by decide)

end Cert.Pre_scores_finite

end
-- ==== Proof.Needed.lean ====
/- Why the precondition is needed: of an argument whose every entry is minus infinity, the kernel's result and the
   reference's differ. -/
module

public import proofs.«01_k».proof.Proof.Kernel.Value
public import proofs.«01_k».proof.Proof.Reference.Value

@[expose] public section

noncomputable section

namespace Tag

open Idealize.ShloMosaic

/-- A sum with a minus infinity in front is minus infinity. -/
theorem sum_bot (n : Nat) : ∑ _ : Fin (n + 1), (⊥ : EReal) = ⊥ := by
  rw [Fin.sum_univ_succ, EReal.bot_add]

theorem mean_bot : mean (fun _ _ _ => ⊥) = fun _ => ⊥ := by
  funext u
  unfold mean
  dsimp only
  rw [sum_bot 24, sum_bot 127]
  exact EReal.bot_mul_coe_of_pos (by norm_num)

theorem share_bot (i : Fin 6) : share (fun _ => ⊥) i = ⊥ := by
  have hw : ∀ i, weight (fun _ => ⊥) i = 0 := fun i => by
    unfold weight logit
    rw [EReal.bot_mul_coe_of_pos (by norm_num), EReal.bot_sub]
    rfl
  unfold share
  simp only [hw, Finset.sum_const_zero]
  simp [Ideal.div]

theorem adj_bot (p : Fin 3 → Fin 6 → EReal) (i j : Fin 6) : adj p (fun _ => ⊥) i j = ⊥ := by
  unfold adj
  rw [share_bot, EReal.bot_add, EReal.bot_add, half_eq, EReal.coe_mul_bot_of_pos (by norm_num), EReal.bot_add]

/-- Where every score is minus infinity, so is every normalised weight. -/
theorem link_bot (p : Fin 3 → Fin 6 → EReal) (i j : Fin 6) : link p (fun _ => ⊥) i j = ⊥ := by
  have hs : ∀ i, scale p (fun _ => ⊥) i = ⊥ := fun i => by
    unfold scale
    simp only [adj_bot]
    rw [sum_bot 5, EReal.bot_add]
    rfl
  unfold link
  rw [adj_bot, hs, hs]
  simp

/-- The kernel's form of a step and the reference's differ where every score and every entry is minus infinity. -/
theorem step_bot (p : Fin 3 → Fin 6 → EReal) (m : Fin 6) :
    ∑ u, (⊥ : EReal) * (eye u m + Ideal.ofBits .f32 0x3DCCCCCD#32 * link p (fun _ => ⊥) m u)
      ≠ step p (fun _ => ⊥) (fun _ => ⊥) m := by
  unfold step
  simp only [link_bot, tenth_eq]
  rw [EReal.bot_add, EReal.coe_mul_bot_of_pos (by norm_num)]
  simp only [EReal.add_bot, EReal.bot_mul_bot, Fin.sum_univ_six, EReal.top_add_top]
  exact top_ne_bot

end Tag

namespace Cert

open Idealize.ShloMosaic Tag

/-- Of the array of minus infinities the kernel and the reference compute different results. -/
theorem results_differ :
    Cert.KernelIdeal.Body.result (fun _ => (⊥ : EReal))
      ≠ Cert.ReferenceIdeal.Read.val_main_v79 (F := Ideal) (fun _ => (⊥ : EReal)) := by
  intro e
  have h := congrFun e (ix5 (0 : Fin 32) (0 : Fin 64) (0 : Fin 128) (0 : Fin 25) (0 : Fin 6))
  rw [Cert.KernelIdeal.Body.result_mix, Cert.ReferenceIdeal.Read.reference_layer] at h
  have hb : mean (Cert.KernelIdeal.Body.sample (fun _ => (⊥ : EReal)) 0 3) = fun _ => ⊥ := mean_bot
  have hb' : mean (Cert.ReferenceIdeal.Read.sample (fun _ => (⊥ : EReal)) 0 3) = fun _ => ⊥ := mean_bot
  rw [hb] at h
  unfold layer at h
  rw [hb'] at h
  exact step_bot _ 0 h

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_scores_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Value
public import proofs.«01_k».proof.Proof.Reference.Value
public import proofs.«01_k».proof.Proof.Finite
public import proofs.«01_k».proof.Proof.Needed
public import Idealize.ShloMosaic.Adequacy
public import Idealize.ShloMosaic.Init

@[expose] public section

noncomputable section

namespace Cert.Proof

open Idealize.ShloMosaic Idealize.SL.Sem Cert.Kernel

/-- The kernel's result is the reference's, of an argument that satisfies the precondition. -/
theorem result_eq (x : Vec Ideal Cert.KernelIdeal.S32x64x128x25x6 .f32)
    (h : Cert.Pre_scores_finite.fn (F := Ideal) x = fun _ => 1#1) :
    Cert.ReferenceIdeal.Read.val_main_v79 (F := Ideal) x = Cert.KernelIdeal.Body.result x := by
  funext i
  obtain ⟨n, c, t, v, m, rfl⟩ : ∃ (n : Fin 32) (c : Fin 64) (t : Fin 128) (v : Fin 25) (m : Fin 6), i = ix5 n c t v m :=
    ⟨i 0, i 1, i 2, i 3, i 4, eq_ix5 i⟩
  exact (Cert.ReferenceIdeal.Read.reference_layer x n c t v m).trans
    (Cert.KernelIdeal.Body.result_layer x (Cert.Pre_scores_finite.finite_of_fn x h) n c t v m).symm

/-- The reference runs, leaves its argument as it was, and no counter is raised, since it has none. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run m ρ)

/-- The two named constants stand for the numbers that the kernel's words round. -/
theorem preserves : Cert.preserves_Kernel_KernelIdeal :=
  ⟨IdealRules.named_const.statement Cert.KernelIdeal.κ "inv_n" .f32 0x39A3D70A#32 ((1 / 3200 : ℝ) : EReal) rfl,
    IdealRules.named_const.statement Cert.KernelIdeal.κ "inv_tau" .f32 0x4036DB6E#32 ((33554432 / 11744051 : ℝ) : EReal) rfl⟩

/-- From memories that agree on the argument, whose scores' channel is finite, the kernel and the reference end with
    equal results. -/
theorem algebraic : Cert.algebraic_KernelIdeal_ReferenceIdeal_pre_scores_finite := by
  intro m g m' g' hpre hm
  refine ⟨fun c => Cert.KernelIdeal.Body.result (m ((c.tc : Thread Cert.KernelIdeal.nD Cert.KernelIdeal.τ).loc
    Cert.KernelIdeal.main_arg0)), Cert.KernelIdeal.Body.run m g, ?_⟩
  refine (θ_run _ _ _).mono (fun r h c => ⟨?_, (h c).2⟩) (Cert.ReferenceIdeal.Value.run m' g')
  rw [(h c).1, Cert.ReferenceIdeal.Read.val_main_v79_eq, hm c]
  exact result_eq _ (hpre c)

theorem claim : Cert.Claim :=
  ⟨Cert.Kernel.Gen.facts, Cert.KernelIdeal.Gen.facts, Cert.ReferenceIdeal.Gen.facts, Cert.Pre_scores_finite.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    preserves,
    algebraic⟩

end Cert.Proof

end
